-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S7168x2560 : Shape := ⟨2, ![7168, 2560]⟩
abbrev S4x1x256x7168 : Shape := ⟨4, ![4, 1, 256, 7168]⟩
abbrev S4x1x2x7168 : Shape := ⟨4, ![4, 1, 2, 7168]⟩
abbrev S4x1x256x2560 : Shape := ⟨4, ![4, 1, 256, 2560]⟩
abbrev S4x1x2x2560 : Shape := ⟨4, ![4, 1, 2, 2560]⟩
abbrev S1024x7168 : Shape := ⟨2, ![1024, 7168]⟩
abbrev S1024x2560 : Shape := ⟨2, ![1024, 2560]⟩
abbrev S8x7168 : Shape := ⟨2, ![8, 7168]⟩
abbrev S8x2560 : Shape := ⟨2, ![8, 2560]⟩
abbrev S512x2560 : Shape := ⟨2, ![512, 2560]⟩
abbrev S1024x512 : Shape := ⟨2, ![1024, 512]⟩
abbrev S8x512 : Shape := ⟨2, ![8, 512]⟩
abbrev S8x128x2560 : Shape := ⟨3, ![8, 128, 2560]⟩
abbrev S8x1x2560 : Shape := ⟨3, ![8, 1, 2560]⟩
abbrev S8x128x512 : Shape := ⟨3, ![8, 128, 512]⟩
abbrev S8x1x512 : Shape := ⟨3, ![8, 1, 512]⟩

abbrev nBuf : Space → Nat
  | .hbm => 10
  | .vmem => 11
  | .smem => 0
  | _ => 0

abbrev bufTy : (tb : Table) → Fin (tcTables nBuf tb) → BufTy
  | .hbm, ⟨0, _⟩ => ⟨S7168x2560, .f32⟩
  | .hbm, ⟨1, _⟩ => ⟨S4x1x256x7168, .fp8e4m3⟩
  | .hbm, ⟨2, _⟩ => ⟨S4x1x2x7168, .f32⟩
  | .hbm, ⟨3, _⟩ => ⟨S4x1x256x2560, .fp8e5m2⟩
  | .hbm, ⟨4, _⟩ => ⟨S4x1x2x2560, .f32⟩
  | .hbm, ⟨5, _⟩ => ⟨S1024x7168, .fp8e4m3⟩
  | .hbm, ⟨6, _⟩ => ⟨S1024x2560, .fp8e5m2⟩
  | .hbm, ⟨7, _⟩ => ⟨S8x7168, .f32⟩
  | .hbm, ⟨8, _⟩ => ⟨S8x2560, .f32⟩
  | .hbm, ⟨9, _⟩ => ⟨S7168x2560, .f32⟩
  | .local _ .vmem, ⟨0, _⟩ => ⟨S512x2560, .f32⟩
  | .local _ .vmem, ⟨1, _⟩ => ⟨S512x2560, .f32⟩
  | .local _ .vmem, ⟨2, _⟩ => ⟨S1024x512, .fp8e4m3⟩
  | .local _ .vmem, ⟨3, _⟩ => ⟨S1024x512, .fp8e4m3⟩
  | .local _ .vmem, ⟨4, _⟩ => ⟨S8x512, .f32⟩
  | .local _ .vmem, ⟨5, _⟩ => ⟨S8x512, .f32⟩
  | .local _ .vmem, ⟨6, _⟩ => ⟨S1024x2560, .fp8e5m2⟩
  | .local _ .vmem, ⟨7, _⟩ => ⟨S8x2560, .f32⟩
  | .local _ .vmem, ⟨8, _⟩ => ⟨S512x2560, .f32⟩
  | .local _ .vmem, ⟨9, _⟩ => ⟨S512x2560, .f32⟩
  | .local _ .vmem, ⟨10, _⟩ => ⟨S1024x2560, .bf16⟩
  | _, _ => ⟨S7168x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2560 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S7168x2560 : Shape := ⟨2, ![7168, 2560]⟩
abbrev S4x1x256x7168 : Shape := ⟨4, ![4, 1, 256, 7168]⟩
abbrev S4x1x2x7168 : Shape := ⟨4, ![4, 1, 2, 7168]⟩
abbrev S4x1x256x2560 : Shape := ⟨4, ![4, 1, 256, 2560]⟩
abbrev S4x1x2x2560 : Shape := ⟨4, ![4, 1, 2, 2560]⟩
abbrev S4x1x2x128x7168 : Shape := ⟨5, ![4, 1, 2, 128, 7168]⟩
abbrev S4x1x2x1x7168 : Shape := ⟨5, ![4, 1, 2, 1, 7168]⟩
abbrev S4x1x2x128x2560 : Shape := ⟨5, ![4, 1, 2, 128, 2560]⟩
abbrev S4x1x2x1x2560 : Shape := ⟨5, ![4, 1, 2, 1, 2560]⟩

abbrev nBuf : Space → Nat
  | .hbm => 19
  | .vmem => 4
  | .smem => 0
  | _ => 0

abbrev bufTy : (tb : Table) → Fin (tcTables nBuf tb) → BufTy
  | .hbm, ⟨0, _⟩ => ⟨S7168x2560, .f32⟩
  | .hbm, ⟨1, _⟩ => ⟨S4x1x256x7168, .fp8e4m3⟩
  | .hbm, ⟨2, _⟩ => ⟨S4x1x2x7168, .f32⟩
  | .hbm, ⟨3, _⟩ => ⟨S4x1x256x2560, .fp8e5m2⟩
  | .hbm, ⟨4, _⟩ => ⟨S4x1x2x2560, .f32⟩
  | .hbm, ⟨5, _⟩ => ⟨S4x1x256x7168, .bf16⟩
  | .hbm, ⟨6, _⟩ => ⟨S4x1x256x2560, .bf16⟩
  | .hbm, ⟨7, _⟩ => ⟨S4x1x2x128x7168, .bf16⟩
  | .hbm, ⟨8, _⟩ => ⟨S4x1x2x7168, .bf16⟩
  | .hbm, ⟨9, _⟩ => ⟨S4x1x2x1x7168, .bf16⟩
  | .hbm, ⟨10, _⟩ => ⟨S4x1x2x128x7168, .bf16⟩
  | .hbm, ⟨11, _⟩ => ⟨S4x1x2x128x7168, .bf16⟩
  | .hbm, ⟨12, _⟩ => ⟨S4x1x2x128x2560, .bf16⟩
  | .hbm, ⟨13, _⟩ => ⟨S4x1x2x2560, .bf16⟩
  | .hbm, ⟨14, _⟩ => ⟨S4x1x2x1x2560, .bf16⟩
  | .hbm, ⟨15, _⟩ => ⟨S4x1x2x128x2560, .bf16⟩
  | .hbm, ⟨16, _⟩ => ⟨S4x1x2x128x2560, .bf16⟩
  | .hbm, ⟨17, _⟩ => ⟨S7168x2560, .f32⟩
  | .hbm, ⟨18, _⟩ => ⟨S7168x2560, .f32⟩
  | .local _ .vmem, ⟨0, _⟩ => ⟨S4x1x256x7168, .fp8e4m3⟩
  | .local _ .vmem, ⟨1, _⟩ => ⟨S4x1x256x2560, .fp8e5m2⟩
  | .local _ .vmem, ⟨2, _⟩ => ⟨S4x1x256x7168, .bf16⟩
  | .local _ .vmem, ⟨3, _⟩ => ⟨S4x1x256x2560, .bf16⟩
  | _, _ => ⟨S7168x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x1x256x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x256x2560 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x256x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1x256x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/-
  What one grid point of the kernel writes, as a value.

  The first point fills the carried buffer with the widened, scaled activation gradient (`k0_pay1` of the codes and the
  scales) and every point writes `k0_pay2` of its own blocks and of the carried buffer. No later point stores into the
  carried buffer, so after every point it still holds what the first point put there.
-/
module

public import proofs.«01_k».proof.Proof.Gen.KernelIdeal.Value

@[expose] public section

noncomputable section

namespace Cert.KernelIdeal.Value

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- At the first point the carried buffer ends at the widened gradient. -/
theorem sout_A (c : Dev nD) (i : grid0.Coords) (a1 : Memref sig .tc .vmem S512x2560 .f32) (h1 : a1.IsWhole) (a2 : Memref sig .tc .vmem S1024x512 .fp8e4m3) (h2 : a2.IsWhole) (a3 : Memref sig .tc .vmem S8x512 .f32) (h3 : a3.IsWhole) (a4 : Memref sig .tc .vmem S1024x2560 .fp8e5m2) (h4 : a4.IsWhole) (a5 : Memref sig .tc .vmem S8x2560 .f32) (h5 : a5.IsWhole) (a6 : Memref sig .tc .vmem S512x2560 .f32) (h6 : a6.IsWhole) (a7 : Memref sig .tc .vmem S1024x2560 .bf16) (h7 : a7.IsWhole) (hc : cond0_0 i)
    (x0 : Vec F S512x2560 .f32) (x1 : Vec F S1024x512 .fp8e4m3) (x2 : Vec F S8x512 .f32) (x3 : Vec F S1024x2560 .fp8e5m2) (x4 : Vec F S8x2560 .f32) :
    sout0_A_0 c i a1 h1 a2 h2 a3 h3 a4 h4 a5 h5 a6 h6 a7 h7 hc x0 x1 x2 x3 x4 = k0_pay1 x3 x4 := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h4.read_unread, h5.read_unread, View.ld_unit_zero (S := S1024x2560) hz, View.ld_unit_zero (S := S8x2560) hz]

/-- At the first point the output block is `k0_pay2` of the point's blocks and of the widened gradient. -/
theorem out_A (c : Dev nD) (i : grid0.Coords) (a1 : Memref sig .tc .vmem S512x2560 .f32) (h1 : a1.IsWhole) (a2 : Memref sig .tc .vmem S1024x512 .fp8e4m3) (h2 : a2.IsWhole) (a3 : Memref sig .tc .vmem S8x512 .f32) (h3 : a3.IsWhole) (a4 : Memref sig .tc .vmem S1024x2560 .fp8e5m2) (h4 : a4.IsWhole) (a5 : Memref sig .tc .vmem S8x2560 .f32) (h5 : a5.IsWhole) (a6 : Memref sig .tc .vmem S512x2560 .f32) (h6 : a6.IsWhole) (a7 : Memref sig .tc .vmem S1024x2560 .bf16) (h7 : a7.IsWhole) (hc : cond0_0 i)
    (x0 : Vec F S512x2560 .f32) (x1 : Vec F S1024x512 .fp8e4m3) (x2 : Vec F S8x512 .f32) (x3 : Vec F S1024x2560 .fp8e5m2) (x4 : Vec F S8x2560 .f32) :
    out0_A_5 c i a1 h1 a2 h2 a3 h3 a4 h4 a5 h5 a6 h6 a7 h7 hc x0 x1 x2 x3 x4 = k0_pay2 x1 x2 x0 (k0_pay1 x3 x4) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz, View.readCov_unit_zero (S := S1024x2560) _ hz]
  simp only [View.readAt_eq_ld, h1.read_unread, h2.read_unread, h3.read_unread, h4.read_unread, h5.read_unread, View.ld_unit_zero (S := S1024x2560) hz, View.ld_unit_zero (S := S8x2560) hz, View.ld_unit_zero (S := S512x2560) hz, View.ld_unit_zero (S := S1024x512) hz, View.ld_unit_zero (S := S8x512) hz]

/-- At a later point the output block is `k0_pay2` of the point's blocks and of the carried buffer. -/
theorem out_B (c : Dev nD) (i : grid0.Coords) (a1 : Memref sig .tc .vmem S512x2560 .f32) (h1 : a1.IsWhole) (a2 : Memref sig .tc .vmem S1024x512 .fp8e4m3) (h2 : a2.IsWhole) (a3 : Memref sig .tc .vmem S8x512 .f32) (h3 : a3.IsWhole) (a4 : Memref sig .tc .vmem S1024x2560 .fp8e5m2) (h4 : a4.IsWhole) (a5 : Memref sig .tc .vmem S8x2560 .f32) (h5 : a5.IsWhole) (a6 : Memref sig .tc .vmem S512x2560 .f32) (h6 : a6.IsWhole) (a7 : Memref sig .tc .vmem S1024x2560 .bf16) (h7 : a7.IsWhole) (hc : ¬cond0_0 i)
    (x0 : Vec F S512x2560 .f32) (x1 : Vec F S1024x512 .fp8e4m3) (x2 : Vec F S8x512 .f32) (x3 : Vec F S1024x2560 .fp8e5m2) (x4 : Vec F S8x2560 .f32) (xs : Vec F S1024x2560 .bf16) :
    out0_B_5 c i a1 h1 a2 h2 a3 h3 a4 h4 a5 h5 a6 h6 a7 h7 hc x0 x1 x2 x3 x4 xs = k0_pay2 x1 x2 x0 xs := by
  unfold out0_B_5
  rw [View.read_writes_eq_canon _ _ _ (cover0_B_5 c i a1 h1 a2 h2 a3 h3 a4 h4 a5 h5 a6 h6 a7 h7 hc x0 x1 x2 x3 x4 xs)]
  unfold kernelRun0_B
  dsimp only
  sl_unfold_words
  rw [View.canon_unit_zero hz]
  simp only [View.readAt_eq_ld, h1.read_unread, h2.read_unread, h3.read_unread, h7.read_unread, View.ld_unit_zero (S := S1024x2560) hz, View.ld_unit_zero (S := S512x2560) hz, View.ld_unit_zero (S := S1024x512) hz, View.ld_unit_zero (S := S8x512) hz]

variable (m : (ℓ : Loc nD τ sig) → Buf (Elt F) ℓ)

/-- The first grid point. -/
abbrev t₀ : Fin cfg0.N := ⟨0, by decide⟩

/-- After every point the carried buffer holds the widened gradient that the first point put there. -/
theorem carried_eq (c : Dev nD) : ∀ (n : ℕ) (h : n < cfg0.N), (outsAt0 m c n h).2 = k0_pay1 (iblk m c 3 t₀) (iblk m c 4 t₀)
  | 0, h => by
    rw [outsAt0_A m c ⟨0, h⟩ rfl]
    dsimp only
    rw [sout_A]
  | n + 1, h => by
    have h14 : n + 1 < 14 := h
    rw [outsAt0_B m c ⟨n + 1, h⟩ (by show ¬ (n + 1) % 14 = 0; omega)]
    exact carried_eq c n (Nat.lt_of_succ_lt h)

/-- After every point the output block is `k0_pay2` of the point's own blocks and of the widened gradient. -/
theorem block_eq (c : Dev nD) : ∀ (n : ℕ) (h : n < cfg0.N),
    (outsAt0 m c n h).1 = k0_pay2 (iblk m c 1 ⟨n, h⟩) (iblk m c 2 ⟨n, h⟩) (iblk m c 0 ⟨n, h⟩) (k0_pay1 (iblk m c 3 t₀) (iblk m c 4 t₀))
  | 0, h => by
    rw [outsAt0_A m c ⟨0, h⟩ rfl]
    dsimp only
    rw [out_A]
  | n + 1, h => by
    have h14 : n + 1 < 14 := h
    rw [outsAt0_B m c ⟨n + 1, h⟩ (by show ¬ (n + 1) % 14 = 0; omega), ← carried_eq m c n (Nat.lt_of_succ_lt h)]
    dsimp only
    rw [out_B]
    rfl

end Cert.KernelIdeal.Value

end
-- ==== Proof.Spec.lean ====
/-
  The accumulated weight gradient as one formula over the extended reals: what both programs are shown to compute.
-/
module

public import Idealize.ShloMosaic.Lib.Pointwise

@[expose] public section

noncomputable section

namespace Cert.Spec

open Idealize.ShloMosaic

/-- The place of token `t` of the 1024 in an array whose leading axes are the 4 microbatches, the batch of 1 and the 256
    positions, at column `j`. -/
abbrev tok {D : Nat} (t : Fin 1024) (j : Fin D) : (⟨4, ![4, 1, 256, D]⟩ : Shape).Idx :=
  ix4 ⟨t.val / 256, by omega⟩ 0 ⟨t.val % 256, by omega⟩ j

/-- The place of the scale of token `t` in an array that keeps one scale per 128 positions, at column `j`. -/
abbrev scl {D : Nat} (t : Fin 1024) (j : Fin D) : (⟨4, ![4, 1, 2, D]⟩ : Shape).Idx :=
  ix4 ⟨t.val / 256, by omega⟩ 0 ⟨t.val / 128 % 2, by omega⟩ j

/-- A block-scaled array read at token `t` and column `j`: the code times the scale of its block. -/
def scaled {D : Nat} (x : (⟨4, ![4, 1, 256, D]⟩ : Shape).Idx → EReal) (s : (⟨4, ![4, 1, 2, D]⟩ : Shape).Idx → EReal)
    (t : Fin 1024) (j : Fin D) : EReal :=
  x (tok t j) * s (scl t j)

/-- The accumulated weight gradient: at row `d` and column `f` the old accumulator plus the sum over all 1024 tokens of
    the scaled activation at `d` times the scaled output gradient at `f`. -/
def wgrad (g : (⟨2, ![7168, 2560]⟩ : Shape).Idx → EReal)
    (x : (⟨4, ![4, 1, 256, 7168]⟩ : Shape).Idx → EReal) (sx : (⟨4, ![4, 1, 2, 7168]⟩ : Shape).Idx → EReal)
    (y : (⟨4, ![4, 1, 256, 2560]⟩ : Shape).Idx → EReal) (sy : (⟨4, ![4, 1, 2, 2560]⟩ : Shape).Idx → EReal) :
    (⟨2, ![7168, 2560]⟩ : Shape).Idx → EReal := fun i =>
  g i + ∑ t : Fin 1024, scaled x sx t (i 0) * scaled y sy t (i 1)

end Cert.Spec

end
-- ==== Proof.Array.lean ====
/-
  The kernel's result array as a function of the five arguments, over the ideal numbers.

  First the two payloads at an index; then the arrays the kernel reads (reshapes of the arguments that merge the token
  axes) at an index; then each window's block as a part of its array; last the result array.
-/
module

public import proofs.«01_k».proof.Proof.Body
public import proofs.«01_k».proof.Proof.Spec
public import Idealize.ShloMosaic.Lib.Claim

@[expose] public section

noncomputable section

namespace Cert.KernelIdeal.Value

open Cert.KernelIdeal Cert.KernelIdeal.Gen Idealize.ShloMosaic Idealize.ShloMosaic.TcCoe Idealize.ShloMosaic.Tactic Idealize.SL.Sem
open Cert.Spec

/-! ## The payloads at an index -/

/-- The widened gradient at token `t` and column `f`: the code times the scale of the token's block of 128. -/
theorem pay1_apply (y : Vec Ideal S1024x2560 .fp8e5m2) (sy : Vec Ideal S8x2560 .f32) (t : Fin 1024) (f : Fin 2560) :
    k0_pay1 y sy (ix2 t f) = (y (ix2 t f) * sy (ix2 ⟨t.val / 128, by omega⟩ f) : EReal) := by
  pointwise [k0_pay1]

/-- The output block at row `d` and column `f`: the accumulator block plus the sum over the tokens of the widened
    activation times the carried buffer. -/
theorem pay2_apply (x : Vec Ideal S1024x512 .fp8e4m3) (sx : Vec Ideal S8x512 .f32) (g : Vec Ideal S512x2560 .f32) (yw : Vec Ideal S1024x2560 .bf16)
    (d : Fin 512) (f : Fin 2560) :
    k0_pay2 x sx g yw (ix2 d f) = (g (ix2 d f) + ∑ t : Fin 1024, (x (ix2 t d) * sx (ix2 ⟨t.val / 128, by omega⟩ d)) * yw (ix2 t f) : EReal) := by
  pointwise [k0_pay2]

/-! ## The arrays the kernel reads -/

variable (m : (ℓ : Loc nD τ sig) → Buf (Elt Ideal) ℓ)

/-- The activation codes reach the kernel with the token axes merged. -/
theorem V_x (c : Dev nD) : V m c main_v0 = shapeCast S1024x7168 (m ((c : Thread nD τ).loc main_arg1)) shapeCasts_S4x1x256x7168_S1024x7168 := by
  unfold_abbrev_sides
  after_results
  rfl

/-- The activation scales reach the kernel with the block axes merged. -/
theorem V_sx (c : Dev nD) : V m c main_v2 = shapeCast S8x7168 (m ((c : Thread nD τ).loc main_arg2)) shapeCasts_S4x1x2x7168_S8x7168 := by
  unfold_abbrev_sides
  after_results
  rfl

/-- The gradient codes reach the kernel with the token axes merged. -/
theorem V_y (c : Dev nD) : V m c main_v1 = shapeCast S1024x2560 (m ((c : Thread nD τ).loc main_arg3)) shapeCasts_S4x1x256x2560_S1024x2560 := by
  unfold_abbrev_sides
  after_results
  rfl

/-- The gradient scales reach the kernel with the block axes merged. -/
theorem V_sy (c : Dev nD) : V m c main_v3 = shapeCast S8x2560 (m ((c : Thread nD τ).loc main_arg4)) shapeCasts_S4x1x2x2560_S8x2560 := by
  unfold_abbrev_sides
  after_results
  rfl

/-- The merged codes at token `t` are the argument at that token. -/
theorem x_apply (v : Vec Ideal S4x1x256x7168 .fp8e4m3) (t : Fin 1024) (d : Fin 7168) :
    shapeCast S1024x7168 v shapeCasts_S4x1x256x7168_S1024x7168 (ix2 t d) = v (tok t d) := by
  pointwise

/-- The merged scales at the block of token `t` are the argument at that token's scale. -/
theorem sx_apply (v : Vec Ideal S4x1x2x7168 .f32) (t : Fin 1024) (d : Fin 7168) :
    shapeCast S8x7168 v shapeCasts_S4x1x2x7168_S8x7168 (ix2 ⟨t.val / 128, by omega⟩ d) = v (scl t d) := by
  pointwise
  refine congrArg v (congrArg (fun q => ix4 q 0 _ d) (Fin.ext ?_))
  show t.val / 128 / 2 = t.val / 256
  omega

/-- The merged codes at token `t` are the argument at that token. -/
theorem y_apply (v : Vec Ideal S4x1x256x2560 .fp8e5m2) (t : Fin 1024) (f : Fin 2560) :
    shapeCast S1024x2560 v shapeCasts_S4x1x256x2560_S1024x2560 (ix2 t f) = v (tok t f) := by
  pointwise

/-- The merged scales at the block of token `t` are the argument at that token's scale. -/
theorem sy_apply (v : Vec Ideal S4x1x2x2560 .f32) (t : Fin 1024) (f : Fin 2560) :
    shapeCast S8x2560 v shapeCasts_S4x1x2x2560_S8x2560 (ix2 ⟨t.val / 128, by omega⟩ f) = v (scl t f) := by
  pointwise
  refine congrArg v (congrArg (fun q => ix4 q 0 _ f) (Fin.ext ?_))
  show t.val / 128 / 2 = t.val / 256
  omega

/-! ## The windows' blocks -/

/-- The accumulator block of point `n`: rows `512 n` onwards. -/
theorem iblk_g (c : Dev nD) (n : Fin cfg0.N) (d : Fin 512) (f : Fin 2560) (r : Fin 7168) (hr : r.val = n.val * 512 + d.val) :
    iblk m c 0 n (ix2 d f) = m ((c : Thread nD τ).loc main_arg0) (ix2 r f) := by
  unfold iblk
  rw [View.read_apply]
  show V m c main_arg0 _ = _
  rw [V_main_arg0]
  congr 1
  funext a
  apply Fin.ext
  have hi := (by decide +kernel : ∀ t : Fin cfg0.N, win0_0.index t = ![t.val, 0]) n
  match a with
  | ⟨0, _⟩ => show win0_0.index n 0 * 512 + 1 * d.val = r.val; rw [hi]; show n.val * 512 + 1 * d.val = r.val; omega
  | ⟨1, _⟩ => show win0_0.index n 1 * 2560 + 1 * f.val = f.val; rw [hi]; show 0 * 2560 + 1 * f.val = f.val; omega

/-- The activation block of point `n`: columns `512 n` onwards, every token. -/
theorem iblk_x (c : Dev nD) (n : Fin cfg0.N) (t : Fin 1024) (d : Fin 512) (r : Fin 7168) (hr : r.val = n.val * 512 + d.val) :
    iblk m c 1 n (ix2 t d) = V m c main_v0 (ix2 t r) := by
  unfold iblk
  rw [View.read_apply]
  show V m c main_v0 _ = _
  congr 1
  funext a
  apply Fin.ext
  have hi := (by decide +kernel : ∀ t : Fin cfg0.N, win0_1.index t = ![0, t.val]) n
  match a with
  | ⟨0, _⟩ => show win0_1.index n 0 * 1024 + 1 * t.val = t.val; rw [hi]; show 0 * 1024 + 1 * t.val = t.val; omega
  | ⟨1, _⟩ => show win0_1.index n 1 * 512 + 1 * d.val = r.val; rw [hi]; show n.val * 512 + 1 * d.val = r.val; omega

/-- The scale block of point `n`: columns `512 n` onwards, every block of tokens. -/
theorem iblk_sx (c : Dev nD) (n : Fin cfg0.N) (b : Fin 8) (d : Fin 512) (r : Fin 7168) (hr : r.val = n.val * 512 + d.val) :
    iblk m c 2 n (ix2 b d) = V m c main_v2 (ix2 b r) := by
  unfold iblk
  rw [View.read_apply]
  show V m c main_v2 _ = _
  congr 1
  funext a
  apply Fin.ext
  have hi := (by decide +kernel : ∀ t : Fin cfg0.N, win0_2.index t = ![0, t.val]) n
  match a with
  | ⟨0, _⟩ => show win0_2.index n 0 * 8 + 1 * b.val = b.val; rw [hi]; show 0 * 8 + 1 * b.val = b.val; omega
  | ⟨1, _⟩ => show win0_2.index n 1 * 512 + 1 * d.val = r.val; rw [hi]; show n.val * 512 + 1 * d.val = r.val; omega

/-- The gradient window's block is its whole array. -/
theorem iblk_y (c : Dev nD) (n : Fin cfg0.N) (t : Fin 1024) (f : Fin 2560) :
    iblk m c 3 n (ix2 t f) = V m c main_v1 (ix2 t f) := by
  unfold iblk
  rw [View.read_apply]
  show V m c main_v1 _ = _
  congr 1
  funext a
  apply Fin.ext
  have hi := (by decide +kernel : ∀ t : Fin cfg0.N, win0_3.index t = ![0, 0]) n
  match a with
  | ⟨0, _⟩ => show win0_3.index n 0 * 1024 + 1 * t.val = t.val; rw [hi]; show 0 * 1024 + 1 * t.val = t.val; omega
  | ⟨1, _⟩ => show win0_3.index n 1 * 2560 + 1 * f.val = f.val; rw [hi]; show 0 * 2560 + 1 * f.val = f.val; omega

/-- The gradient scales' block is its whole array. -/
theorem iblk_sy (c : Dev nD) (n : Fin cfg0.N) (b : Fin 8) (f : Fin 2560) :
    iblk m c 4 n (ix2 b f) = V m c main_v3 (ix2 b f) := by
  unfold iblk
  rw [View.read_apply]
  show V m c main_v3 _ = _
  congr 1
  funext a
  apply Fin.ext
  have hi := (by decide +kernel : ∀ t : Fin cfg0.N, win0_4.index t = ![0, 0]) n
  match a with
  | ⟨0, _⟩ => show win0_4.index n 0 * 8 + 1 * b.val = b.val; rw [hi]; show 0 * 8 + 1 * b.val = b.val; omega
  | ⟨1, _⟩ => show win0_4.index n 1 * 2560 + 1 * f.val = f.val; rw [hi]; show 0 * 2560 + 1 * f.val = f.val; omega

/-! ## The result array -/

/-- The block point `n` writes, at row `d` and column `f`, is the accumulated weight gradient at row `512 n + d`. -/
theorem block_wgrad (c : Dev nD) (n : Fin cfg0.N) (d : Fin 512) (f : Fin 2560) (r : Fin 7168) (hr : r.val = n.val * 512 + d.val) :
    (outsAt0 m c n.val n.isLt).1 (ix2 d f)
      = wgrad (m ((c : Thread nD τ).loc main_arg0)) (m ((c : Thread nD τ).loc main_arg1)) (m ((c : Thread nD τ).loc main_arg2))
          (m ((c : Thread nD τ).loc main_arg3)) (m ((c : Thread nD τ).loc main_arg4)) (ix2 r f) := by
  rw [block_eq, pay2_apply, iblk_g m c n d f r hr]
  unfold wgrad scaled
  refine congrArg _ (Finset.sum_congr rfl fun t _ => ?_)
  rw [pay1_apply, iblk_x m c n t d r hr, iblk_sx m c n _ d r hr, iblk_y, iblk_sy, V_x, V_sx, V_y, V_sy, x_apply, sx_apply, y_apply, sy_apply]
  rfl

/-- The result array is the accumulated weight gradient of the five arguments. -/
theorem G5_eq (c : Dev nD) :
    G5 m c = wgrad (m ((c : Thread nD τ).loc main_arg0)) (m ((c : Thread nD τ).loc main_arg1)) (m ((c : Thread nD τ).loc main_arg2))
          (m ((c : Thread nD τ).loc main_arg3)) (m ((c : Thread nD τ).loc main_arg4)) := by
  funext i
  have h0 : (i 0).val < 7168 := (i 0).isLt
  have h1 : (i 1).val < 2560 := (i 1).isLt
  have hp : pt5Of i = (i 0).val / 512 := by
    show 1 * ((i 0).val / 512 - 0) + 1 * ((i 1).val / 2560 - 0) = _
    omega
  have hlt : pt5Of i < cfg0.N := by
    show _ < 14
    omega
  have hl : loc5Of i = ix2 ⟨(i 0).val % 512, by omega⟩ ⟨(i 1).val, h1⟩ := by
    funext a
    apply Fin.ext
    match a with
    | ⟨0, _⟩ => rfl
    | ⟨1, _⟩ => show (i 1).val % 2560 = (i 1).val; omega
  have hi : i = ix2 ⟨(i 0).val, h0⟩ ⟨(i 1).val, h1⟩ := by
    funext a
    match a with
    | ⟨0, _⟩ => rfl
    | ⟨1, _⟩ => rfl
  unfold G5
  rw [dif_pos hlt, ← outsAt0_sweep m c _ hlt, hl]
  refine (block_wgrad m c ⟨pt5Of i, hlt⟩ _ _ ⟨(i 0).val, h0⟩ ?_).trans (congrArg _ hi.symm)
  show (i 0).val = pt5Of i * 512 + (i 0).val % 512
  omega

end Cert.KernelIdeal.Value

end
-- ==== Proof.Reference.lean ====
/-
  What the reference's run leaves in its result, as one term of its arguments: the two code arrays are cast by a kernel
  of one point, then lines of array operations scale them, contract them over the tokens and add the accumulator.
-/
module

public import proofs.«01_k».proof.Proof.Gen.ReferenceIdeal.Frame
public import proofs.«01_k».proof.Proof.Spec
public import Idealize.ShloMosaic.Lib.Claim
public import Idealize.ShloMosaic.Lib.Pipeline.ValueKit

@[expose] public section

noncomputable section

namespace Cert.ReferenceIdeal.Value

open Cert.ReferenceIdeal Cert.ReferenceIdeal.Gen Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The array operations of the reference: the accumulator `g` plus the contraction over the token axes of the cast
    activation codes `xw` times their broadcast scales with the cast gradient codes `yw` times theirs. -/
def refTerm (g : FVec Ideal S7168x2560 .f32) (xw : FVec Ideal S4x1x256x7168 .bf16) (sx : FVec Ideal S4x1x2x7168 .f32)
    (yw : FVec Ideal S4x1x256x2560 .bf16) (sy : FVec Ideal S4x1x2x2560 .f32) : FVec Ideal S7168x2560 .f32 :=
  addf g (Host.dotGeneral dot_S4x1x2x128x7168_S4x1x2x128x2560_S7168x2560_1023_1023_4_4_n_n none
    (mulf (shapeCast S4x1x2x128x7168 xw shapeCasts_S4x1x256x7168_S4x1x2x128x7168)
      (broadcastInDim S4x1x2x128x7168 ![0, 1, 2, 3, 4] bcast_S4x1x2x1x7168_S4x1x2x128x7168_0_1_2_3_4
        (broadcastInDim S4x1x2x1x7168 ![0, 1, 2, 4] bcast_S4x1x2x7168_S4x1x2x1x7168_0_1_2_4 (truncf .bf16 sx bitsLt_bf16_f32))))
    (mulf (shapeCast S4x1x2x128x2560 yw shapeCasts_S4x1x256x2560_S4x1x2x128x2560)
      (broadcastInDim S4x1x2x128x2560 ![0, 1, 2, 3, 4] bcast_S4x1x2x1x2560_S4x1x2x128x2560_0_1_2_3_4
        (broadcastInDim S4x1x2x1x2560 ![0, 1, 2, 4] bcast_S4x1x2x2560_S4x1x2x1x2560_0_1_2_4 (truncf .bf16 sy bitsLt_bf16_f32)))))

theorem hz4 : (![0, 0, 0, 0] : Fin 4 → Nat) = fun _ => 0 := funext fun a => by fin_cases a <;> rfl

/-- The activation codes' block is the whole argument. -/
theorem iblk_x (c : Dev nD) (t : Fin cfg0.N) : iblk m c 0 t = m ((c : Thread nD τ).loc main_arg1) := by
  unfold iblk
  funext j
  rw [View.read_apply]
  show V m c main_arg1 _ = V m c main_arg1 j
  congr 1
  funext a
  apply Fin.ext
  match a with
  | ⟨0, _⟩ => show 0 * 4 + 1 * (j 0).val = (j 0).val; omega
  | ⟨1, _⟩ => show 0 * 1 + 1 * (j 1).val = (j 1).val; omega
  | ⟨2, _⟩ => show 0 * 256 + 1 * (j 2).val = (j 2).val; omega
  | ⟨3, _⟩ => show 0 * 7168 + 1 * (j 3).val = (j 3).val; omega

/-- The gradient codes' block is the whole argument. -/
theorem iblk_y (c : Dev nD) (t : Fin cfg0.N) : iblk m c 1 t = m ((c : Thread nD τ).loc main_arg3) := by
  unfold iblk
  funext j
  rw [View.read_apply]
  show V m c main_arg3 _ = V m c main_arg3 j
  congr 1
  funext a
  apply Fin.ext
  match a with
  | ⟨0, _⟩ => show 0 * 4 + 1 * (j 0).val = (j 0).val; omega
  | ⟨1, _⟩ => show 0 * 1 + 1 * (j 1).val = (j 1).val; omega
  | ⟨2, _⟩ => show 0 * 256 + 1 * (j 2).val = (j 2).val; omega
  | ⟨3, _⟩ => show 0 * 2560 + 1 * (j 3).val = (j 3).val; omega

/-- The first array the casting kernel leaves: the activation codes cast. -/
theorem arr_x (c : Dev nD) : (dats m 0 c).arrAt 2 cfg0.N = k0_pay1 (F := Ideal) (m ((c : Thread nD τ).loc main_arg1)) := by
  refine (dats m 0 c).arrAt_eq_of_after_last 2 t0_0 (by decide +kernel) _ fun j => ?_
  blk_simp
  rw [after0_2, iblk_x]
  unfold out0_2
  rw [View.canon_unit_zero hz4]
  simp only [View.ld_unit_zero (S := S4x1x256x7168) hz4]

/-- The second array the casting kernel leaves: the gradient codes cast. -/
theorem arr_y (c : Dev nD) : (dats m 0 c).arrAt 3 cfg0.N = k0_pay2 (F := Ideal) (m ((c : Thread nD τ).loc main_arg3)) := by
  refine (dats m 0 c).arrAt_eq_of_after_last 3 t0_0 (by decide +kernel) _ fun j => ?_
  blk_simp
  rw [after0_3, iblk_y]
  unfold out0_3
  rw [View.canon_unit_zero hz4]
  simp only [View.ld_unit_zero (S := S4x1x256x2560) hz4]

/-- The lines after the casting kernel compute `refTerm` of what they find. -/
theorem tail_eq (W : Valuation τ sig (Elt Ideal)) :
    StableHlo.after hostOps1 W (Proc.devRef .tc main_v12)
      = refTerm (W (Proc.devRef .tc main_arg0)) (W (Proc.devRef .tc main_v0_0)) (W (Proc.devRef .tc main_arg2))
          (W (Proc.devRef .tc main_v0_1)) (W (Proc.devRef .tc main_arg4)) := by
  unfold_abbrev_sides
  after_results
  rfl

/-- The result buffer after the reference's run. -/
theorem result_eq (c : Dev nD) : Pipeline.afterTail₀ cfgs (dats m) 0 (V0 m) [hostOps1] c main_v12
    = refTerm (m ((c : Thread nD τ).loc main_arg0)) (k0_pay1 (F := Ideal) (m ((c : Thread nD τ).loc main_arg1)))
        (m ((c : Thread nD τ).loc main_arg2)) (k0_pay2 (F := Ideal) (m ((c : Thread nD τ).loc main_arg3)))
        (m ((c : Thread nD τ).loc main_arg4)) := by
  unfold Pipeline.afterTail₀
  rw [List.flatten_singleton, tail_eq,
    Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_of_ne _ c (V0 m c) _ main_arg4 (by exact (by decide : ∀ w, Pipeline.arrRef spec0 w ≠ main_arg4))]
  have hx := Pipeline.withArrays_arr spec0 winFacts0.arr_inj c (V0 m c) (fun w => (dats m 0 c).arrAt w cfg0.N) 2
  have hy := Pipeline.withArrays_arr spec0 winFacts0.arr_inj c (V0 m c) (fun w => (dats m 0 c).arrAt w cfg0.N) 3
  exact congrArg₂ (fun a b => refTerm _ a _ b _) (hx.trans (arr_x m c)) (hy.trans (arr_y m c))

/-- The reference's run: its result is `refTerm` of the arguments and their casts, its arguments are unchanged. -/
theorem run : θ_run defs (onTc (τ := τ) (main (F := Ideal))) ⟨m, fun _ => 0, ρ⟩ fun r => ∀ c : Dev nD,
      r.2.mem ((c : Thread nD τ).loc main_v12)
        = refTerm (m ((c : Thread nD τ).loc main_arg0)) (k0_pay1 (F := Ideal) (m ((c : Thread nD τ).loc main_arg1)))
            (m ((c : Thread nD τ).loc main_arg2)) (k0_pay2 (F := Ideal) (m ((c : Thread nD τ).loc main_arg3)))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).2 main_v12 (Pipeline.mem_restRefs_of main_v12 (by decide) (by decide))).trans (result_eq m c), h.2 c⟩)
    (θ_run_and (run_main m ρ) (unchanged m ρ))

end Cert.ReferenceIdeal.Value

end
-- ==== Proof.Equation.lean ====
/-
  The reference's term is the accumulated weight gradient: its contraction runs over four axes (batch, microbatch, block
  of positions, position in the block), which count the 1024 tokens.
-/
module

public import proofs.«01_k».proof.Proof.Reference

@[expose] public section

noncomputable section

namespace Cert.ReferenceIdeal.Value

open Cert.ReferenceIdeal Cert.ReferenceIdeal.Gen Idealize.ShloMosaic Idealize.ShloMosaic.TcCoe Idealize.ShloMosaic.Tactic Idealize.SL.Sem
open Cert.Spec

/-- The dimension numbers of the reference's contraction. -/
abbrev D : DotDims S4x1x2x128x7168 S4x1x2x128x2560 S7168x2560 := dot_S4x1x2x128x7168_S4x1x2x128x2560_S7168x2560_1023_1023_4_4_n_n

/-- The contraction index of token `t`. -/
def contrOf (t : Fin 1024) : D.contr.Idx := fun p =>
  match p with
  | ⟨0, _⟩ => (⟨0, by decide⟩ : Fin 1)
  | ⟨1, _⟩ => (⟨t.val / 256, by omega⟩ : Fin 4)
  | ⟨2, _⟩ => (⟨t.val / 128 % 2, by omega⟩ : Fin 2)
  | ⟨3, _⟩ => (⟨t.val % 128, by omega⟩ : Fin 128)
  | ⟨_ + 4, h⟩ => absurd h (Nat.not_lt.2 (Nat.le_add_left _ _))

/-- The tokens are the contraction indices. -/
def contrEquiv : Fin 1024 ≃ D.contr.Idx where
  toFun := contrOf
  invFun k := ⟨(k ⟨1, by decide⟩).val * 256 + (k ⟨2, by decide⟩).val * 128 + (k ⟨3, by decide⟩).val, by
    have h1 : (k ⟨1, by decide⟩).val < 4 := (k ⟨1, by decide⟩).isLt
    have h2 : (k ⟨2, by decide⟩).val < 2 := (k ⟨2, by decide⟩).isLt
    have h3 : (k ⟨3, by decide⟩).val < 128 := (k ⟨3, by decide⟩).isLt
    omega⟩
  left_inv t := by
    apply Fin.ext
    show t.val / 256 * 256 + t.val / 128 % 2 * 128 + t.val % 128 = t.val
    omega
  right_inv k := by
    have h0 : (k ⟨0, by decide⟩).val < 1 := (k ⟨0, by decide⟩).isLt
    have h1 : (k ⟨1, by decide⟩).val < 4 := (k ⟨1, by decide⟩).isLt
    have h2 : (k ⟨2, by decide⟩).val < 2 := (k ⟨2, by decide⟩).isLt
    have h3 : (k ⟨3, by decide⟩).val < 128 := (k ⟨3, by decide⟩).isLt
    funext p
    apply Fin.ext
    match p with
    | ⟨0, _⟩ => show 0 = (k ⟨0, by decide⟩).val; omega
    | ⟨1, _⟩ => show ((k ⟨1, by decide⟩).val * 256 + (k ⟨2, by decide⟩).val * 128 + (k ⟨3, by decide⟩).val) / 256 = (k ⟨1, by decide⟩).val; omega
    | ⟨2, _⟩ => show ((k ⟨1, by decide⟩).val * 256 + (k ⟨2, by decide⟩).val * 128 + (k ⟨3, by decide⟩).val) / 128 % 2 = (k ⟨2, by decide⟩).val; omega
    | ⟨3, _⟩ => show ((k ⟨1, by decide⟩).val * 256 + (k ⟨2, by decide⟩).val * 128 + (k ⟨3, by decide⟩).val) % 128 = (k ⟨3, by decide⟩).val; omega
    | ⟨_ + 4, h⟩ => exact absurd h (Nat.not_lt.2 (Nat.le_add_left _ _))

/-- The place of token `t` at column `j` once the position axis is split into blocks. -/
abbrev split {N : Nat} (t : Fin 1024) (j : Fin N) : (⟨5, ![4, 1, 2, 128, N]⟩ : Shape).Idx :=
  ix5 ⟨t.val / 256, by omega⟩ 0 ⟨t.val / 128 % 2, by omega⟩ ⟨t.val % 128, by omega⟩ j

/-- The left operand's index at result row `d` and token `t`. -/
theorem lhs_idx (d : Fin 7168) (f : Fin 2560) (t : Fin 1024) : D.lhsIdx (ix2 d f) (contrOf t) = split t d := by
  funext a
  match a with
  | ⟨0, _⟩ => rfl
  | ⟨1, _⟩ => rfl
  | ⟨2, _⟩ => rfl
  | ⟨3, _⟩ => rfl
  | ⟨4, _⟩ => rfl

/-- The right operand's index at result column `f` and token `t`. -/
theorem rhs_idx (d : Fin 7168) (f : Fin 2560) (t : Fin 1024) : D.rhsIdx (ix2 d f) (contrOf t) = split t f := by
  funext a
  match a with
  | ⟨0, _⟩ => rfl
  | ⟨1, _⟩ => rfl
  | ⟨2, _⟩ => rfl
  | ⟨3, _⟩ => rfl
  | ⟨4, _⟩ => rfl

/-- The contraction at row `d` and column `f` is the sum over the tokens. -/
theorem dot_apply (l : FVec Ideal S4x1x2x128x7168 .bf16) (r : FVec Ideal S4x1x2x128x2560 .bf16) (d : Fin 7168) (f : Fin 2560) :
    (Host.dotGeneral D none l r : FVec Ideal S7168x2560 .f32) (ix2 d f) = (∑ t : Fin 1024, l (split t d) * r (split t f) : EReal) := by
  refine (Ideal.dotGeneral_apply D none _ l r (ix2 d f)).trans ?_
  refine (Fintype.sum_equiv contrEquiv _ _ fun t => ?_).symm
  show l (split t d) * r (split t f) = l (D.lhsIdx (ix2 d f) (contrOf t)) * r (D.rhsIdx (ix2 d f) (contrOf t))
  rw [lhs_idx, rhs_idx]

/-- The scaled activation at token `t` and column `d`. -/
theorem x_apply (x : Vec Ideal S4x1x256x7168 .fp8e4m3) (sx : FVec Ideal S4x1x2x7168 .f32) (t : Fin 1024) (d : Fin 7168) :
    mulf (shapeCast S4x1x2x128x7168 (k0_pay1 x) shapeCasts_S4x1x256x7168_S4x1x2x128x7168)
      (broadcastInDim S4x1x2x128x7168 ![0, 1, 2, 3, 4] bcast_S4x1x2x1x7168_S4x1x2x128x7168_0_1_2_3_4
        (broadcastInDim S4x1x2x1x7168 ![0, 1, 2, 4] bcast_S4x1x2x7168_S4x1x2x1x7168_0_1_2_4 (truncf .bf16 sx bitsLt_bf16_f32))) (split t d)
      = scaled x sx t d := by
  pointwise [k0_pay1]
  unfold scaled
  refine congrArg (· * sx (scl t d)) (congrArg x (congrArg (fun q => ix4 _ 0 q d) (Fin.ext ?_)))
  show t.val / 128 % 2 * 128 + t.val % 128 = t.val % 256
  omega

/-- The scaled gradient at token `t` and column `f`. -/
theorem y_apply (y : Vec Ideal S4x1x256x2560 .fp8e5m2) (sy : FVec Ideal S4x1x2x2560 .f32) (t : Fin 1024) (f : Fin 2560) :
    mulf (shapeCast S4x1x2x128x2560 (k0_pay2 y) shapeCasts_S4x1x256x2560_S4x1x2x128x2560)
      (broadcastInDim S4x1x2x128x2560 ![0, 1, 2, 3, 4] bcast_S4x1x2x1x2560_S4x1x2x128x2560_0_1_2_3_4
        (broadcastInDim S4x1x2x1x2560 ![0, 1, 2, 4] bcast_S4x1x2x2560_S4x1x2x1x2560_0_1_2_4 (truncf .bf16 sy bitsLt_bf16_f32))) (split t f)
      = scaled y sy t f := by
  pointwise [k0_pay2]
  unfold scaled
  refine congrArg (· * sy (scl t f)) (congrArg y (congrArg (fun q => ix4 _ 0 q f) (Fin.ext ?_)))
  show t.val / 128 % 2 * 128 + t.val % 128 = t.val % 256
  omega

/-- The reference computes the accumulated weight gradient. -/
theorem refTerm_eq (g : FVec Ideal S7168x2560 .f32) (x : Vec Ideal S4x1x256x7168 .fp8e4m3) (sx : FVec Ideal S4x1x2x7168 .f32)
    (y : Vec Ideal S4x1x256x2560 .fp8e5m2) (sy : FVec Ideal S4x1x2x2560 .f32) :
    refTerm g (k0_pay1 x) sx (k0_pay2 y) sy = wgrad g x sx y sy := by
  funext i
  obtain ⟨d, f, rfl⟩ : ∃ (d : Fin 7168) (f : Fin 2560), i = ix2 d f := ⟨i 0, i 1, eq_ix2 i⟩
  unfold refTerm
  refine (congrArg (g (ix2 d f) + ·) ((dot_apply _ _ d f).trans (Finset.sum_congr rfl fun t _ => ?_)) : _)
  rw [x_apply, y_apply]
  rfl

end Cert.ReferenceIdeal.Value

end
-- ==== Proof.lean ====
/-
  The certificate: `claim` assembles the generated frames of the three programs, the (empty) rewriting of the kernel, and
  the equality of the kernel's result with the reference's, which Array and Equation bring to one formula.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Array
public import proofs.«01_k».proof.Proof.Equation
public import Idealize.ShloMosaic.Adequacy
public import Idealize.ShloMosaic.Init

@[expose] public section

noncomputable section

namespace Cert.Proof

open Idealize.ShloMosaic Idealize.SL.Sem Cert.Kernel Cert.Spec

/-- Over the ideal numbers the kernel's result array equals the reference's: both are the accumulated weight gradient of
    the five arguments. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨fun c => wgrad (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)),
    (θ_run _ _ _).mono (fun _ h c => ⟨(h c).1.trans (Cert.KernelIdeal.Value.G5_eq m c), (h c).2⟩) (Cert.KernelIdeal.Value.run m ρ),
    (θ_run _ _ _).mono (fun _ h c => ⟨(h c).1.trans ((Cert.ReferenceIdeal.Value.refTerm_eq _ _ _ _ _).trans (by
      rw [(hag c).1, (hag c).2.1, (hag c).2.2.1, (hag c).2.2.2.1, (hag c).2.2.2.2])), (h c).2⟩) (Cert.ReferenceIdeal.Value.run m' ρ')⟩

/-- The certificate: the three programs end without a fault with their arguments unchanged, and the kernel computes what
    the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
